-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_and_zero_biases [hPre_segments_and_zero_biases : Cert.Pre_segments_and_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_segments_and_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_and_zero_biases [hPre_segments_and_zero_biases : Cert.Pre_segments_and_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_and_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_segments_and_zero_biases [hKernelIdeal : Cert.KernelIdeal.Facts] [hPre_segments_and_zero_biases : Cert.Pre_segments_and_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_and_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_segments_and_zero_biases [hReferenceIdeal : Cert.ReferenceIdeal.Facts] [hPre_segments_and_zero_biases : Cert.Pre_segments_and_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_and_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_segments_and_zero_biases [hKernelIdeal : Cert.KernelIdeal.Facts] [hReferenceIdeal : Cert.ReferenceIdeal.Facts] [hPre_segments_and_zero_biases : Cert.Pre_segments_and_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_and_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_segments_and_zero_biases : Cert.Pre_segments_and_zero_biases.Facts),
    quiescent_Kernel (hKernel := hKernel)
    ∧ quiescent_KernelIdeal (hKernelIdeal := hKernelIdeal)
    ∧ quiescent_KernelIdeal_pre_segments_and_zero_biases (hKernelIdeal := hKernelIdeal) (hPre_segments_and_zero_biases := hPre_segments_and_zero_biases)
    ∧ quiescent_ReferenceIdeal (hReferenceIdeal := hReferenceIdeal)
    ∧ quiescent_ReferenceIdeal_pre_segments_and_zero_biases (hReferenceIdeal := hReferenceIdeal) (hPre_segments_and_zero_biases := hPre_segments_and_zero_biases)
    ∧ preserves_Kernel_KernelIdeal
    ∧ algebraic_KernelIdeal_ReferenceIdeal_pre_segments_and_zero_biases (hKernelIdeal := hKernelIdeal) (hReferenceIdeal := hReferenceIdeal) (hPre_segments_and_zero_biases := hPre_segments_and_zero_biases)
-- ==== Pre_segments_and_zero_biases.lean ====
abbrev S32768x3 : Shape := ⟨2, ![32768, 3]⟩
abbrev S17 : Shape := ⟨1, ![17]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x25 : Shape := ⟨2, ![64, 25]⟩
abbrev S25 : Shape := ⟨1, ![25]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S16_0 : S17.Slices ![0] S16
  slices_S17_S16_1 : S17.Slices ![1] S16
  reducesTo_S16_S_d0 : S16.ReducesTo [0] S_
  h_S_ : 0 < S_.numel
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S25 : S_.BroadcastsInDim S25 (![] : Fin 0 → Fin S25.rank)
  reducesTo_S25_S_d0 : S25.ReducesTo [0] S_
  bcast_S_S32768x3 : S_.BroadcastsInDim S32768x3 (![] : Fin 0 → Fin S32768x3.rank)
  reducesTo_S32768x3_S_d0_1 : S32768x3.ReducesTo [0, 1] S_
  bcast_S_S3x32 : S_.BroadcastsInDim S3x32 (![] : Fin 0 → Fin S3x32.rank)
  reducesTo_S3x32_S_d0_1 : S3x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_v46 : IVec S_ 1) (main_v49 : IVec S64x128 1) (main_c_19 : IVec S_ 1) : IVec S_ 1 :=
  let main_v50 : IVec S_ 1 := (fun x v => Host.reduce IntOp.andi x v reducesTo_S64x128_S_d0_1 h_S_) main_v49 main_c_19
  let main_v51 : IVec S_ 1 := andi main_v46 main_v50
  main_v51

def fn_part2 {F : FTy → Type} [FloatOps F] (main_arg2 : FVec F S3x32 .f32) (main_arg4 : FVec F S32x64 .f32) (main_arg6 : FVec F S64x128 .f32) (main_v31 : IVec S_ 1) (main_v32 : FVec F S32768x3 .f32) (main_cst_12 : FVec F S_ .f32) : IVec S_ 1 :=
  let main_v33 : FVec F S32768x3 .f32 := broadcastInDim S32768x3 ![] bcast_S_S32768x3 main_cst_12
  let main_v34 : IVec S32768x3 1 := cmpf .olt main_v32 main_v33
  let main_c_13 : IVec S_ 1 := constantI S_ 1 1#1
  let main_v35 : IVec S_ 1 := (fun x v => Host.reduce IntOp.andi x v reducesTo_S32768x3_S_d0_1 h_S_) main_v34 main_c_13
  let main_v36 : IVec S_ 1 := andi main_v31 main_v35
  let main_v37 : FVec F S3x32 .f32 := Host.absf main_arg2
  let main_cst_14 : FVec F S_ .f32 := constant S_ .f32 0x7F800000#32
  let main_v38 : FVec F S3x32 .f32 := broadcastInDim S3x32 ![] bcast_S_S3x32 main_cst_14
  let main_v39 : IVec S3x32 1 := cmpf .olt main_v37 main_v38
  let main_c_15 : IVec S_ 1 := constantI S_ 1 1#1
  let main_v40 : IVec S_ 1 := (fun x v => Host.reduce IntOp.andi x v reducesTo_S3x32_S_d0_1 h_S_) main_v39 main_c_15
  let main_v41 : IVec S_ 1 := andi main_v36 main_v40
  let main_v42 : FVec F S32x64 .f32 := Host.absf main_arg4
  let main_cst_16 : FVec F S_ .f32 := constant S_ .f32 0x7F800000#32
  let main_v43 : FVec F S32x64 .f32 := broadcastInDim S32x64 ![] bcast_S_S32x64 main_cst_16
  let main_v44 : IVec S32x64 1 := cmpf .olt main_v42 main_v43
  let main_c_17 : IVec S_ 1 := constantI S_ 1 1#1
  let main_v45 : IVec S_ 1 := (fun x v => Host.reduce IntOp.andi x v reducesTo_S32x64_S_d0_1 h_S_) main_v44 main_c_17
  let main_v46 : IVec S_ 1 := andi main_v41 main_v45
  let main_v47 : FVec F S64x128 .f32 := Host.absf main_arg6
  let main_cst_18 : FVec F S_ .f32 := constant S_ .f32 0x7F800000#32
  let main_v48 : FVec F S64x128 .f32 := broadcastInDim S64x128 ![] bcast_S_S64x128 main_cst_18
  let main_v49 : IVec S64x128 1 := cmpf .olt main_v47 main_v48
  let main_c_19 : IVec S_ 1 := constantI S_ 1 1#1
  fn_part3 (F := F) main_v46 main_v49 main_c_19

def fn_part1 {F : FTy → Type} [FloatOps F] (main_arg0 : FVec F S32768x3 .f32) (main_arg2 : FVec F S3x32 .f32) (main_arg4 : FVec F S32x64 .f32) (main_arg6 : FVec F S64x128 .f32) (main_arg7 : FVec F S128 .f32) (main_arg9 : FVec F S128 .f32) (main_arg11 : FVec F S64 .f32) (main_arg13 : FVec F S25 .f32) (main_v15 : IVec S_ 1) (main_v16 : FVec F S128 .f32) : IVec S_ 1 :=
  let main_v17 : IVec S128 1 := cmpf .oeq main_arg7 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v15 main_v18
  let main_cst_6 : FVec F S_ .f32 := constant S_ .f32 0x00000000#32
  let main_v20 : FVec F S128 .f32 := broadcastInDim S128 ![] bcast_S_S128 main_cst_6
  let main_v21 : IVec S128 1 := cmpf .oeq main_arg9 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v19 main_v22
  let main_cst_8 : FVec F S_ .f32 := constant S_ .f32 0x00000000#32
  let main_v24 : FVec F S64 .f32 := broadcastInDim S64 ![] bcast_S_S64 main_cst_8
  let main_v25 : IVec S64 1 := cmpf .oeq main_arg11 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v23 main_v26
  let main_cst_10 : FVec F S_ .f32 := constant S_ .f32 0x00000000#32
  let main_v28 : FVec F S25 .f32 := broadcastInDim S25 ![] bcast_S_S25 main_cst_10
  let main_v29 : IVec S25 1 := cmpf .oeq main_arg13 main_v28
  let main_c_11 : IVec S_ 1 := constantI S_ 1 1#1
  let main_v30 : IVec S_ 1 := (fun x v => Host.reduce IntOp.andi x v reducesTo_S25_S_d0 h_S_) main_v29 main_c_11
  let main_v31 : IVec S_ 1 := andi main_v27 main_v30
  let main_v32 : FVec F S32768x3 .f32 := Host.absf main_arg0
  let main_cst_12 : FVec F S_ .f32 := constant S_ .f32 0x7F800000#32
  fn_part2 (F := F) main_arg2 main_arg4 main_arg6 main_v31 main_v32 main_cst_12

def fn {F : FTy → Type} [FloatOps F] (main_arg0 : FVec F S32768x3 .f32) (main_arg1 : IVec S17 32) (main_arg2 : FVec F S3x32 .f32) (main_arg3 : FVec F S32 .f32) (main_arg4 : FVec F S32x64 .f32) (main_arg5 : FVec F S64 .f32) (main_arg6 : FVec F S64x128 .f32) (main_arg7 : FVec F S128 .f32) (main_arg8 : FVec F S128x128 .f32) (main_arg9 : FVec F S128 .f32) (main_arg10 : FVec F S128x64 .f32) (main_arg11 : FVec F S64 .f32) (main_arg12 : FVec F S64x25 .f32) (main_arg13 : FVec F S25 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S16 32 := (extractStridedSlice S16 ![0] · slices_S17_S16_0) main_arg1
  let main_v4 : IVec S16 32 := (extractStridedSlice S16 ![1] · slices_S17_S16_1) main_arg1
  let main_v5 : IVec S16 1 := cmpi .sle main_v3 main_v4
  let main_c_0 : IVec S_ 1 := constantI S_ 1 1#1
  let main_v6 : IVec S_ 1 := (fun x v => Host.reduce IntOp.andi x v reducesTo_S16_S_d0 h_S_) main_v5 main_c_0
  let main_v7 : IVec S_ 1 := andi main_v2 main_v6
  let main_cst : FVec F S_ .f32 := constant S_ .f32 0x00000000#32
  let main_v8 : FVec F S32 .f32 := broadcastInDim S32 ![] bcast_S_S32 main_cst
  let main_v9 : IVec S32 1 := cmpf .oeq main_arg3 main_v8
  let main_c_1 : IVec S_ 1 := constantI S_ 1 1#1
  let main_v10 : IVec S_ 1 := (fun x v => Host.reduce IntOp.andi x v reducesTo_S32_S_d0 h_S_) main_v9 main_c_1
  let main_v11 : IVec S_ 1 := andi main_v7 main_v10
  let main_cst_2 : FVec F S_ .f32 := constant S_ .f32 0x00000000#32
  let main_v12 : FVec F S64 .f32 := broadcastInDim S64 ![] bcast_S_S64 main_cst_2
  let main_v13 : IVec S64 1 := cmpf .oeq main_arg5 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v11 main_v14
  let main_cst_4 : FVec F S_ .f32 := constant S_ .f32 0x00000000#32
  let main_v16 : FVec F S128 .f32 := broadcastInDim S128 ![] bcast_S_S128 main_cst_4
  fn_part1 (F := F) main_arg0 main_arg2 main_arg4 main_arg6 main_arg7 main_arg9 main_arg11 main_arg13 main_v15 main_v16
-- ==== Kernel.lean ====
abbrev S32768x3 : Shape := ⟨2, ![32768, 3]⟩
abbrev S17 : Shape := ⟨1, ![17]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x25 : Shape := ⟨2, ![64, 25]⟩
abbrev S25 : Shape := ⟨1, ![25]⟩
abbrev S1x17 : Shape := ⟨2, ![1, 17]⟩
abbrev S16x25 : Shape := ⟨2, ![16, 25]⟩
abbrev S4096x3 : Shape := ⟨2, ![4096, 3]⟩
abbrev S16x128 : Shape := ⟨2, ![16, 128]⟩
abbrev S4096x32 : Shape := ⟨2, ![4096, 32]⟩
abbrev S4096x64 : Shape := ⟨2, ![4096, 64]⟩
abbrev S4096x128 : Shape := ⟨2, ![4096, 128]⟩
abbrev S1x16 : Shape := ⟨2, ![1, 16]⟩
abbrev S16x1 : Shape := ⟨2, ![16, 1]⟩
abbrev S16x4096 : Shape := ⟨2, ![16, 4096]⟩
abbrev S15x128 : Shape := ⟨2, ![15, 128]⟩
abbrev S1x128 : Shape := ⟨2, ![1, 128]⟩
abbrev S16x64 : Shape := ⟨2, ![16, 64]⟩

abbrev nBuf : Space → Nat
  | .hbm => 16
  | .vmem => 11
  | .smem => 0
  | _ => 0

abbrev bufTy : (tb : Table) → Fin (tcTables nBuf tb) → BufTy
  | .hbm, ⟨0, _⟩ => ⟨S32768x3, .f32⟩
  | .hbm, ⟨1, _⟩ => ⟨S17, .i32⟩
  | .hbm, ⟨2, _⟩ => ⟨S3x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x25, .f32⟩
  | .hbm, ⟨13, _⟩ => ⟨S25, .f32⟩
  | .hbm, ⟨14, _⟩ => ⟨S1x17, .i32⟩
  | .hbm, ⟨15, _⟩ => ⟨S16x25, .f32⟩
  | .local _ .vmem, ⟨0, _⟩ => ⟨S4096x3, .f32⟩
  | .local _ .vmem, ⟨1, _⟩ => ⟨S4096x3, .f32⟩
  | .local _ .vmem, ⟨2, _⟩ => ⟨S1x17, .i32⟩
  | .local _ .vmem, ⟨3, _⟩ => ⟨S3x32, .f32⟩
  | .local _ .vmem, ⟨4, _⟩ => ⟨S32x64, .f32⟩
  | .local _ .vmem, ⟨5, _⟩ => ⟨S64x128, .f32⟩
  | .local _ .vmem, ⟨6, _⟩ => ⟨S128x128, .f32⟩
  | .local _ .vmem, ⟨7, _⟩ => ⟨S128x64, .f32⟩
  | .local _ .vmem, ⟨8, _⟩ => ⟨S64x25, .f32⟩
  | .local _ .vmem, ⟨9, _⟩ => ⟨S16x25, .f32⟩
  | .local _ .vmem, ⟨10, _⟩ => ⟨S16x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_22 : BitVec 32 := 0#32
  let v36 : BitVec 1 := Scalar.cmpi .ne v35 c0_i32_22
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x17 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x25 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32768x3 : Shape := ⟨2, ![32768, 3]⟩
abbrev S17 : Shape := ⟨1, ![17]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x25 : Shape := ⟨2, ![64, 25]⟩
abbrev S25 : Shape := ⟨1, ![25]⟩
abbrev S32768x32 : Shape := ⟨2, ![32768, 32]⟩
abbrev S1x32 : Shape := ⟨2, ![1, 32]⟩
abbrev S_ : Shape := ⟨0, ![]⟩
abbrev S32768x64 : Shape := ⟨2, ![32768, 64]⟩
abbrev S1x64 : Shape := ⟨2, ![1, 64]⟩
abbrev S32768x128 : Shape := ⟨2, ![32768, 128]⟩
abbrev S1x128 : Shape := ⟨2, ![1, 128]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S16x128 : Shape := ⟨2, ![16, 128]⟩
abbrev S16 : Shape := ⟨1, ![16]⟩
abbrev S16x1 : Shape := ⟨2, ![16, 1]⟩
abbrev S16x64 : Shape := ⟨2, ![16, 64]⟩
abbrev S16x25 : Shape := ⟨2, ![16, 25]⟩
abbrev S1x25 : Shape := ⟨2, ![1, 25]⟩

abbrev nBuf : Space → Nat
  | .hbm => 87
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S17, .i32⟩
  | .hbm, ⟨2, _⟩ => ⟨S3x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x25, .f32⟩
  | .hbm, ⟨13, _⟩ => ⟨S25, .f32⟩
  | .hbm, ⟨14, _⟩ => ⟨S32768x32, .f32⟩
  | .hbm, ⟨15, _⟩ => ⟨S1x32, .f32⟩
  | .hbm, ⟨16, _⟩ => ⟨S32768x32, .f32⟩
  | .hbm, ⟨17, _⟩ => ⟨S32768x32, .f32⟩
  | .hbm, ⟨18, _⟩ => ⟨S_, .f32⟩
  | .hbm, ⟨19, _⟩ => ⟨S32768x32, .f32⟩
  | .hbm, ⟨20, _⟩ => ⟨S32768x32, .f32⟩
  | .hbm, ⟨21, _⟩ => ⟨S32768x64, .f32⟩
  | .hbm, ⟨22, _⟩ => ⟨S1x64, .f32⟩
  | .hbm, ⟨23, _⟩ => ⟨S32768x64, .f32⟩
  | .hbm, ⟨24, _⟩ => ⟨S32768x64, .f32⟩
  | .hbm, ⟨25, _⟩ => ⟨S_, .f32⟩
  | .hbm, ⟨26, _⟩ => ⟨S32768x64, .f32⟩
  | .hbm, ⟨27, _⟩ => ⟨S32768x64, .f32⟩
  | .hbm, ⟨28, _⟩ => ⟨S32768x128, .f32⟩
  | .hbm, ⟨29, _⟩ => ⟨S1x128, .f32⟩
  | .hbm, ⟨30, _⟩ => ⟨S32768x128, .f32⟩
  | .hbm, ⟨31, _⟩ => ⟨S32768x128, .f32⟩
  | .hbm, ⟨32, _⟩ => ⟨S_, .f32⟩
  | .hbm, ⟨33, _⟩ => ⟨S32768x128, .f32⟩
  | .hbm, ⟨34, _⟩ => ⟨S32768x128, .f32⟩
  | .hbm, ⟨35, _⟩ => ⟨S32768, .i32⟩
  | .hbm, ⟨36, _⟩ => ⟨S1x17, .i32⟩
  | .hbm, ⟨37, _⟩ => ⟨S32768x1, .i32⟩
  | .hbm, ⟨38, _⟩ => ⟨S32768x17, .i32⟩
  | .hbm, ⟨39, _⟩ => ⟨S32768x17, .i32⟩
  | .hbm, ⟨40, _⟩ => ⟨S32768x17, .i1⟩
  | .hbm, ⟨41, _⟩ => ⟨S32768x17, .i32⟩
  | .hbm, ⟨42, _⟩ => ⟨S_, .i32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S_, .f32⟩
  | .hbm, ⟨56, _⟩ => ⟨S16x128, .f32⟩
  | .hbm, ⟨57, _⟩ => ⟨S32768x1, .i32⟩
  | .hbm, ⟨58, _⟩ => ⟨S16x128, .f32⟩
  | .hbm, ⟨59, _⟩ => ⟨S16, .i32⟩
  | .hbm, ⟨60, _⟩ => ⟨S16, .i32⟩
  | .hbm, ⟨61, _⟩ => ⟨S16, .i32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16x1, .f32⟩
  | .hbm, ⟨67, _⟩ => ⟨S16x128, .f32⟩
  | .hbm, ⟨68, _⟩ => ⟨S16x128, .f32⟩
  | .hbm, ⟨69, _⟩ => ⟨S16x128, .f32⟩
  | .hbm, ⟨70, _⟩ => ⟨S1x128, .f32⟩
  | .hbm, ⟨71, _⟩ => ⟨S16x128, .f32⟩
  | .hbm, ⟨72, _⟩ => ⟨S16x128, .f32⟩
  | .hbm, ⟨73, _⟩ => ⟨S_, .f32⟩
  | .hbm, ⟨74, _⟩ => ⟨S16x128, .f32⟩
  | .hbm, ⟨75, _⟩ => ⟨S16x128, .f32⟩
  | .hbm, ⟨76, _⟩ => ⟨S16x64, .f32⟩
  | .hbm, ⟨77, _⟩ => ⟨S1x64, .f32⟩
  | .hbm, ⟨78, _⟩ => ⟨S16x64, .f32⟩
  | .hbm, ⟨79, _⟩ => ⟨S16x64, .f32⟩
  | .hbm, ⟨80, _⟩ => ⟨S_, .f32⟩
  | .hbm, ⟨81, _⟩ => ⟨S16x64, .f32⟩
  | .hbm, ⟨82, _⟩ => ⟨S16x64, .f32⟩
  | .hbm, ⟨83, _⟩ => ⟨S16x25, .f32⟩
  | .hbm, ⟨84, _⟩ => ⟨S1x25, .f32⟩
  | .hbm, ⟨85, _⟩ => ⟨S16x25, .f32⟩
  | .hbm, ⟨86, _⟩ => ⟨S16x25, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_c_0 : Ref sig .tc := ⟨.hbm, 44, rfl⟩
abbrev main_v23 : Ref sig .tc := ⟨.hbm, 45, rfl⟩
abbrev main_v24 : Ref sig .tc := ⟨.hbm, 46, rfl⟩
abbrev main_c_1 : Ref sig .tc := ⟨.hbm, 47, rfl⟩
abbrev main_c_2 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v25 : Ref sig .tc := ⟨.hbm, 54, rfl⟩
abbrev main_cst : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call4_cst : Ref sig .tc := ⟨.hbm, 73, rfl⟩
abbrev main_call4_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call5_cst : Ref sig .tc := ⟨.hbm, 80, rfl⟩
abbrev main_call5_v0 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Proof.Words.lean ====
/-
  Facts about 32-bit words: a segment start measured from a block's first point, and a point's segment as a clamped count.
-/
module

public import Idealize.ShloMosaic.Lib.Pointwise

@[expose] public section

open Idealize.ShloMosaic

namespace Cert.Rips

theorem toInt_ofNat_small (n : ℕ) (h : n < 2147483648) : (BitVec.ofNat 32 n).toInt = (n : Int) := by
  rw [BitVec.toInt_eq_toNat_of_lt (by rw [BitVec.toNat_ofNat]; omega), BitVec.toNat_ofNat]
  omega

/-- A start that is not negative, less the number of points before block `t`, is at or below lane `l` exactly when the start is at or below point `4096 t + l`. -/
theorem bound_iff (c : BitVec 32) (hc : 0 ≤ c.toInt) (t l : ℕ) (ht : t < 8) (hl : l < 4096) :
    (c - BitVec.ofNat 32 t * 4096#32 : BitVec 32).toInt ≤ (BitVec.ofNat 32 l).toInt ↔ c.toInt ≤ ((t * 4096 + l : ℕ) : Int) := by
  have hm : BitVec.ofNat 32 t * 4096#32 = BitVec.ofNat 32 (t * 4096) := by
    rw [BitVec.ofNat_mul]
  have hu : c.toInt < 2147483648 := BitVec.toInt_lt
  rw [hm, toInt_ofNat_small l (by omega), BitVec.toInt_sub, toInt_ofNat_small (t * 4096) (by omega),
    Int.bmod_eq_of_le (by omega) (by omega)]
  omega

end Cert.Rips
-- ==== Proof.Count.lean ====
/-
  A point's segment as a clamped count of starts: for starts that never decrease and begin at zero, point `n` has segment
  `s` exactly when it lies at or after start `s` and, unless `s` is the last segment, before start `s + 1`.
-/
module

public import proofs.«01_k».proof.Proof.Words
public import Mathlib.Order.Interval.Finset.Fin

@[expose] public section

open Idealize.ShloMosaic

namespace Cert.Rips

/-- With starts that never decrease, more than `j` of them are at or below `n` exactly when start `j` is. -/
theorem lt_count (c : Fin 17 → Int) (hm : Monotone c) (n : Int) (j : Fin 17) :
    j.val < (Finset.univ.filter fun k : Fin 17 => c k ≤ n).card ↔ c j ≤ n := by
  constructor
  · intro h
    by_contra hn
    have hsub : (Finset.univ.filter fun k : Fin 17 => c k ≤ n) ⊆ Finset.Iio j := fun k hk => by
      rw [Finset.mem_filter] at hk
      rw [Finset.mem_Iio]
      by_contra hkj
      exact hn ((hm (not_lt.mp hkj)).trans hk.2)
    have := Finset.card_le_card hsub
    rw [Fin.card_Iio] at this
    omega
  · intro h
    have hsub : Finset.Iic j ⊆ (Finset.univ.filter fun k : Fin 17 => c k ≤ n) := fun k hk => by
      rw [Finset.mem_Iic] at hk
      exact Finset.mem_filter.mpr ⟨Finset.mem_univ _, (hm hk).trans h⟩
    have := Finset.card_le_card hsub
    rw [Fin.card_Iic] at this
    omega

/-- The clamped count as a number. -/
theorem clamp_toInt (C : ℕ) (h1 : 1 ≤ C) (h17 : C ≤ 17) :
    (IntOp.minsi 15#32 (IntOp.maxsi 0#32 (BitVec.ofNat 32 C - 1#32))).toInt = min 15 ((C : Int) - 1) := by
  interval_cases C <;> decide

/-- Which points segment `s` has. -/
theorem clamp_eq_iff (c : Fin 17 → Int) (hm : Monotone c) (n : Int) (h0 : c 0 ≤ n) (s : Fin 16) :
    (IntOp.minsi 15#32 (IntOp.maxsi 0#32 (BitVec.ofNat 32 (Finset.univ.filter fun k : Fin 17 => c k ≤ n).card - 1#32))).toInt = (s.val : Int)
      ↔ c s.castSucc ≤ n ∧ (s.val < 15 → ¬c s.succ ≤ n) := by
  have hC := lt_count c hm n
  have h17 : (Finset.univ.filter fun k : Fin 17 => c k ≤ n).card ≤ 17 := (Finset.card_le_univ _).trans (by simp)
  have h1 := (hC 0).mpr h0
  rw [clamp_toInt _ (by simpa using h1) h17, ← hC s.castSucc, ← hC s.succ]
  simp only [Fin.val_castSucc, Fin.val_succ]
  omega

end Cert.Rips
-- ==== Proof.Layers.lean ====
/-
  The mathematics both programs share: the point encoder (three dense layers, each followed by a cut at zero), read at
  one point and one feature, and the classifier head, read at one segment and one class, as sums over the extended reals.
-/
module

public import Mathlib.Data.EReal.Operations
public import Idealize.ShloMosaic.Lib.Pointwise

@[expose] public section

noncomputable section

open Idealize.ShloMosaic

namespace Cert.Rips

/-- One dense layer without bias, cut at zero: the weighted sum of the inputs `x` against column `j` of `w`, or zero if it is negative. -/
def dense {a b : ℕ} (x : Fin a → EReal) (w : Fin a → Fin b → EReal) (j : Fin b) : EReal := max (∑ i : Fin a, x i * w i j) 0

/-- The encoder of one point: three dense layers in a row. -/
def encode {a b c d : ℕ} (x : Fin a → EReal) (w1 : Fin a → Fin b → EReal) (w2 : Fin b → Fin c → EReal) (w3 : Fin c → Fin d → EReal) (j : Fin d) : EReal :=
  dense (dense (dense x w1) w2) w3 j

/-- The head of one segment: two dense layers and a last product that is not cut. -/
def head {a b c d : ℕ} (p : Fin a → EReal) (w1 : Fin a → Fin b → EReal) (w2 : Fin b → Fin c → EReal) (w3 : Fin c → Fin d → EReal) (j : Fin d) : EReal :=
  ∑ i : Fin c, dense (dense p w1) w2 i * w3 i j

/-- An extended real that is a real number. -/
def IsReal (x : EReal) : Prop := x ≠ ⊤ ∧ x ≠ ⊥

theorem IsReal.coe (r : ℝ) : IsReal (r : EReal) := ⟨EReal.coe_ne_top r, EReal.coe_ne_bot r⟩

theorem IsReal.lift {x : EReal} (h : IsReal x) : ∃ r : ℝ, x = (r : EReal) := ⟨x.toReal, (EReal.coe_toReal h.1 h.2).symm⟩

theorem IsReal.zero : IsReal 0 := IsReal.coe 0

theorem IsReal.add {x y : EReal} (hx : IsReal x) (hy : IsReal y) : IsReal (x + y) := by
  obtain ⟨a, rfl⟩ := hx.lift
  obtain ⟨b, rfl⟩ := hy.lift
  exact IsReal.coe (a + b)

theorem IsReal.mul {x y : EReal} (hx : IsReal x) (hy : IsReal y) : IsReal (x * y) := by
  obtain ⟨a, rfl⟩ := hx.lift
  obtain ⟨b, rfl⟩ := hy.lift
  rw [← EReal.coe_mul]
  exact IsReal.coe (a * b)

theorem IsReal.max {x y : EReal} (hx : IsReal x) (hy : IsReal y) : IsReal (max x y) := by
  rcases max_choice x y with h | h <;> rw [h] <;> assumption

theorem IsReal.sum {ι : Type*} (S : Finset ι) (f : ι → EReal) (h : ∀ i ∈ S, IsReal (f i)) : IsReal (∑ i ∈ S, f i) := by
  classical
  induction S using Finset.induction_on with
  | empty => exact IsReal.zero
  | insert a S ha ih =>
    rw [Finset.sum_insert ha]
    exact (h a (Finset.mem_insert_self _ _)).add (ih fun i hi => h i (Finset.mem_insert_of_mem hi))

theorem IsReal.dense {a b : ℕ} {x : Fin a → EReal} {w : Fin a → Fin b → EReal} (hx : ∀ i, IsReal (x i)) (hw : ∀ i j, IsReal (w i j)) (j : Fin b) :
    IsReal (dense x w j) :=
  IsReal.max (IsReal.sum _ _ fun i _ => (hx i).mul (hw i j)) IsReal.zero

/-- Real inputs and real weights give a real encoding. -/
theorem IsReal.encode {a b c d : ℕ} {x : Fin a → EReal} {w1 : Fin a → Fin b → EReal} {w2 : Fin b → Fin c → EReal} {w3 : Fin c → Fin d → EReal}
    (hx : ∀ i, IsReal (x i)) (h1 : ∀ i j, IsReal (w1 i j)) (h2 : ∀ i j, IsReal (w2 i j)) (h3 : ∀ i j, IsReal (w3 i j)) (j : Fin d) :
    IsReal (encode x w1 w2 w3 j) :=
  IsReal.dense (IsReal.dense (IsReal.dense hx h1) h2) h3 j

/-- Taking away a real part of a real sum leaves the rest: the sum over `S` less the sum over the part `T` of it is the sum over what is in `S` and not in `T`. -/
theorem sum_sub_part {ι : Type*} [DecidableEq ι] (S T : Finset ι) (hTS : T ⊆ S) (f : ι → EReal) (hf : ∀ i, IsReal (f i)) :
    ∑ i ∈ S, f i - ∑ i ∈ T, f i = ∑ i ∈ S \ T, f i := by
  rw [← Finset.sum_sdiff hTS]
  obtain ⟨a, ha⟩ := (IsReal.sum (S \ T) f fun i _ => hf i).lift
  obtain ⟨b, hb⟩ := (IsReal.sum T f fun i _ => hf i).lift
  rw [ha, hb, ← EReal.coe_add, ← EReal.coe_sub, add_sub_cancel_right]

end Cert.Rips

end
-- ==== Proof.Block.lean ====
/-
  One grid step of the kernel, read at one entry: the step's block of encoded points enters the running sums with weight
  one from a segment's start on and weight zero before it; and the last step's head, read at one entry.
-/
module

public import proofs.«01_k».proof.Proof.Layers
public import proofs.«01_k».proof.Proof.Gen.KernelIdeal.Skeleton

@[expose] public section

set_option maxRecDepth 16384

noncomputable section

open Idealize.ShloMosaic

namespace Cert.Rips

open Cert.KernelIdeal Cert.KernelIdeal.Gen

theorem pay_zero (j : S16x128.Idx) : k0_pay3 (F := Ideal) j = 0 := by pointwise [k0_pay3]

theorem pay_store (v : FVec Ideal S16x128 .f32) : k0_pay1 (F := Ideal) v = v := by
  funext j
  pointwise [k0_pay1]

/-- Choosing between a value and zero on the comparison «lane at or after the bound». -/
theorem select_from (b l : BitVec 32) (x : EReal) : Scalar.select (IntOp.cmpi .sge l b) x 0 = if b.toInt ≤ l.toInt then x else 0 := by
  by_cases h : b.toInt ≤ l.toInt
  · rw [if_pos h]
    simp [Scalar.select, IntOp.cmpi, BitVec.sle, h]
  · rw [if_neg h]
    simp [Scalar.select, IntOp.cmpi, BitVec.sle, h]

/-- One grid step: the running sum of segment start `s` and feature `d` grows by the encodings of the block's points at or after the start. -/
theorem pay_step (i : grid0.Coords) (x : Vec Ideal S4096x3 .f32) (w1 : Vec Ideal S3x32 .f32) (w2 : Vec Ideal S32x64 .f32) (w3 : Vec Ideal S64x128 .f32)
    (cu : Vec Ideal S1x16 .i32) (acc : Vec Ideal S16x128 .f32) (s : Fin 16) (d : Fin 128) :
    k0_pay4 (F := Ideal) i x w1 w2 w3 cu acc (ix2 s d) = acc (ix2 s d)
      + ∑ l : Fin 4096, if (cu (ix2 0 s) - BitVec.ofNat 32 (i 0).val * 4096#32 : BitVec 32).toInt ≤ (BitVec.ofNat 32 l.val).toInt then
          encode (fun k => x (ix2 l k)) (fun a b => w1 (ix2 a b)) (fun a b => w2 (ix2 a b)) (fun a b => w3 (ix2 a b)) d else 0 := by
  pointwise [k0_pay4, encode, dense]
  exact congrArg (acc (ix2 s d) + ·) (Finset.sum_congr rfl fun l _ => select_from _ _ _)

/-- The head at one segment and one class: the difference of neighbouring running sums, times one over the segment's length or over one, through the head's layers. -/
theorem pay_head (u : Vec Ideal S16x128 .f32) (hi lo : Vec Ideal S1x16 .i32) (w1 : Vec Ideal S128x128 .f32) (w2 : Vec Ideal S128x64 .f32) (w3 : Vec Ideal S64x25 .f32)
    (s : Fin 16) (o : Fin 25) :
    k0_pay2 (F := Ideal) u hi lo w1 w2 w3 (ix2 s o)
      = head (fun d : Fin 128 => (u (ix2 s d) - if h : s.val < 15 then u (ix2 ⟨s.val + 1, by omega⟩ d) else 0)
            * Ideal.div 1 (((IntOp.maxsi (hi (ix2 0 s) - lo (ix2 0 s)) 1#32).toInt : ℝ) : EReal))
          (fun a b => w1 (ix2 a b)) (fun a b => w2 (ix2 a b)) (fun a b => w3 (ix2 a b)) o := by
  pointwise [k0_pay2, head, dense]
  simp only [Nat.add_comm 1]
  rfl

end Cert.Rips

end
-- ==== Proof.Fold.lean ====
/-
  The running sums the kernel carries from step to step, after the last step, and the array it writes.
-/
module

public import proofs.«01_k».proof.Proof.Block
public import proofs.«01_k».proof.Proof.Words
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Rips

open Cert.KernelIdeal Cert.KernelIdeal.Gen

/-- The sum of the encodings of the points at or after the start of segment `s`, feature `d`. -/
def fromStart (x : FVec Ideal S32768x3 .f32) (cu : IVec S17 32) (w1 : FVec Ideal S3x32 .f32) (w2 : FVec Ideal S32x64 .f32) (w3 : FVec Ideal S64x128 .f32)
    (s : Fin 16) (d : Fin 128) : EReal :=
  ∑ n : Fin 32768, if (cu (ix1 (s.castSucc : Fin 17))).toInt ≤ (n.val : Int) then
    encode (fun k => x (ix2 n k)) (fun a b => w1 (ix2 a b)) (fun a b => w2 (ix2 a b)) (fun a b => w3 (ix2 a b)) d else 0

/-- What the kernel writes: the head over the differences of neighbouring sums, times one over the segment's length or over one. -/
def kernelOut (x : FVec Ideal S32768x3 .f32) (cu : IVec S17 32) (w1 : FVec Ideal S3x32 .f32) (w2 : FVec Ideal S32x64 .f32) (w3 : FVec Ideal S64x128 .f32)
    (v1 : FVec Ideal S128x128 .f32) (v2 : FVec Ideal S128x64 .f32) (v3 : FVec Ideal S64x25 .f32) : FVec Ideal S16x25 .f32 := fun j =>
  head (fun d : Fin 128 => (fromStart x cu w1 w2 w3 (j 0) d - if h : (j 0).val < 15 then fromStart x cu w1 w2 w3 ⟨(j 0).val + 1, by omega⟩ d else 0)
      * Ideal.div 1 (((IntOp.maxsi (cu (ix1 (Fin.succ (j 0) : Fin 17)) - cu (ix1 (Fin.castSucc (j 0) : Fin 17))) 1#32).toInt : ℝ) : EReal))
    (fun a b => v1 (ix2 a b)) (fun a b => v2 (ix2 a b)) (fun a b => v3 (ix2 a b)) (j 1)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem coord : ∀ t : Fin cfg0.N, (grid0.coords t 0).val = t.val := (by decide +kernel : ∀ t : Fin grid0.N, _)

/-- The starts' block is the one-row spelling of the starts' vector. -/
theorem blk_cu (c : Dev nD) (t : Fin cfg0.N) (q : Fin 17) : iblk m c 1 t (ix2 0 q) = m ((c : Thread nD τ).loc main_arg1) (ix1 q) := by
  have h : iblk m c 1 t (ix2 0 q) = V m c main_v0 (ix2 0 q) := by blk_ext [iblk, idx t]
  rw [h]
  entry_read
  show shapeCast S1x17 (show IVec S17 32 from m ((c : Thread nD τ).loc main_arg1)) shapeCasts_S17_S1x17 (ix2 0 q) = _
  pointwise

/-- The starts as the kernel's steps read them. -/
theorem starts_lo (c : Dev nD) (t : Fin cfg0.N) (s : Fin 16) :
    View.ld (iblk m c 1 t) (Rect.unit ![0, 0] ![1, 16] inb_S1x17_S1x16_0_0) (ix2 0 s) = m ((c : Thread nD τ).loc main_arg1) (ix1 (s.castSucc : Fin 17)) := by
  pointwise
  exact blk_cu m c t _

/-- The ends as the kernel's last step reads them. -/
theorem starts_hi (c : Dev nD) (t : Fin cfg0.N) (s : Fin 16) :
    View.ld (iblk m c 1 t) (Rect.unit ![0, 1] ![1, 16] inb_S1x17_S1x16_0_1) (ix2 0 s) = m ((c : Thread nD τ).loc main_arg1) (ix1 (s.succ : Fin 17)) := by
  pointwise
  refine (blk_cu m c t _).trans (congrArg (fun q => m ((c : Thread nD τ).loc main_arg1) (ix1 q)) (Fin.ext ?_))
  simp [Nat.add_comm]

/-- The points' block at step `t` is rows `4096 t` on of the points' array. -/
theorem blk_x (c : Dev nD) (t : Fin cfg0.N) (l : Fin 4096) (k : Fin 3) (h : t.val * 4096 + l.val < 32768) :
    iblk m c 0 t (ix2 l k) = m ((c : Thread nD τ).loc main_arg0) (ix2 ⟨t.val * 4096 + l.val, h⟩ k) := by
  blk_ext [iblk, V, idx t]

theorem blk_w1 (c : Dev nD) (t : Fin cfg0.N) (a : Fin 3) (b : Fin 32) : iblk m c 2 t (ix2 a b) = m ((c : Thread nD τ).loc main_arg2) (ix2 a b) := by
  blk_ext [iblk, V, idx t]

theorem blk_w2 (c : Dev nD) (t : Fin cfg0.N) (a : Fin 32) (b : Fin 64) : iblk m c 3 t (ix2 a b) = m ((c : Thread nD τ).loc main_arg4) (ix2 a b) := by
  blk_ext [iblk, V, idx t]

theorem blk_w3 (c : Dev nD) (t : Fin cfg0.N) (a : Fin 64) (b : Fin 128) : iblk m c 4 t (ix2 a b) = m ((c : Thread nD τ).loc main_arg6) (ix2 a b) := by
  blk_ext [iblk, V, idx t]

theorem blk_v1 (c : Dev nD) (t : Fin cfg0.N) (a : Fin 128) (b : Fin 128) : iblk m c 5 t (ix2 a b) = m ((c : Thread nD τ).loc main_arg8) (ix2 a b) := by
  blk_ext [iblk, V, idx t]

theorem blk_v2 (c : Dev nD) (t : Fin cfg0.N) (a : Fin 128) (b : Fin 64) : iblk m c 6 t (ix2 a b) = m ((c : Thread nD τ).loc main_arg10) (ix2 a b) := by
  blk_ext [iblk, V, idx t]

theorem blk_v3 (c : Dev nD) (t : Fin cfg0.N) (a : Fin 64) (b : Fin 25) : iblk m c 7 t (ix2 a b) = m ((c : Thread nD τ).loc main_arg12) (ix2 a b) := by
  blk_ext [iblk, V, idx t]

/-- What step `t` adds to the running sum of start `s` and feature `d`. -/
def part (c : Dev nD) (t : Fin cfg0.N) (s : Fin 16) (d : Fin 128) : EReal :=
  ∑ l : Fin 4096, if (m ((c : Thread nD τ).loc main_arg1) (ix1 (s.castSucc : Fin 17)) : BitVec 32).toInt ≤ ((t.val * 4096 + l.val : ℕ) : Int) then
    encode (fun k => iblk m c 0 t (ix2 l k)) (fun a b => m ((c : Thread nD τ).loc main_arg2) (ix2 a b)) (fun a b => m ((c : Thread nD τ).loc main_arg4) (ix2 a b))
      (fun a b => m ((c : Thread nD τ).loc main_arg6) (ix2 a b)) d else 0

/-- One step's payload at an entry, in the arrays' own terms. -/
theorem step_entry (c : Dev nD) (hcu : ∀ s : Fin 17, 0 ≤ (m ((c : Thread nD τ).loc main_arg1) (ix1 s) : BitVec 32).toInt) (t : Fin cfg0.N) (acc : Vec Ideal S16x128 .f32)
    (s : Fin 16) (d : Fin 128) :
    k0_pay4 (F := Ideal) (grid0.coords t) (iblk m c 0 t) (iblk m c 2 t) (iblk m c 3 t) (iblk m c 4 t)
        (View.ld (iblk m c 1 t) (Rect.unit ![0, 0] ![1, 16] inb_S1x17_S1x16_0_0)) acc (ix2 s d) = acc (ix2 s d) + part m c t s d := by
  have ht : t.val < 8 := lt_of_lt_of_eq t.isLt N_0
  rw [pay_step, coord t]
  refine congrArg (acc (ix2 s d) + ·) (Finset.sum_congr rfl fun l _ => ?_)
  have hb := bound_iff (m ((c : Thread nD τ).loc main_arg1) (ix1 (s.castSucc : Fin 17)) : BitVec 32) (hcu _) t.val l.val ht l.isLt
  rw [starts_lo]
  simp only [hb, blk_w1, blk_w2, blk_w3]

/-- The scratch after the last step holds the sums from each start on. -/
theorem scratch_last (c : Dev nD) (hcu : ∀ s : Fin 17, 0 ≤ (m ((c : Thread nD τ).loc main_arg1) (ix1 s) : BitVec 32).toInt) (t : Fin cfg0.N) (h7 : t.val % 8 = 7)
    (s : Fin 16) (d : Fin 128) :
    (outsAt0 m c t.val t.isLt).2 (ix2 s d) = fromStart (m ((c : Thread nD τ).loc main_arg0)) (m ((c : Thread nD τ).loc main_arg1)) (m ((c : Thread nD τ).loc main_arg2))
      (m ((c : Thread nD τ).loc main_arg4)) (m ((c : Thread nD τ).loc main_arg6)) s d := by
  have ht : t.val < 8 := lt_of_lt_of_eq t.isLt N_0
  have hN : cfg0.N = 8 := N_0
  refine (Pipeline.eq_sum_fin_of_reset_step_apply_last (fun n h (j : Fin 16 × Fin 128) => (outsAt0 m c n h).2 (ix2 j.1 j.2)) 8 (fun _ => (0 : EReal))
    (fun p j => part m c p j.1 j.2) (fun t h j => ?_) (fun t h j => ?_) (le_of_eq N_0) t (by omega) (s, d)).trans ?_
  · rw [outsAt0_A m c t h (by omega)]
    frame_out
    rw [pay_store]
    refine (step_entry m c hcu t _ j.1 j.2).trans ?_
    rw [pay_zero]
  · by_cases h' : t.val % 8 = 7
    · rw [outsAt0_C m c t h h']
      frame_out
      rw [pay_store]
      exact (step_entry m c hcu t _ j.1 j.2).trans (congrArg (· + part m c t j.1 j.2) (congrFun (Memref.IsWhole.read_unread _ _) _))
    · rw [outsAt0_B m c t h h']
      frame_out
      rw [pay_store]
      exact (step_entry m c hcu t _ j.1 j.2).trans (congrArg (· + part m c t j.1 j.2) (congrFun (Memref.IsWhole.read_unread _ _) _))
  · rw [zero_add]
    unfold fromStart part
    refine Fin.sum_mul_add_congr (fun p l hl => ?_) (by rw [hN])
    simp only [blk_x m c p l _ hl]

/-- What the last step writes: the head's payload over the scratch as that step leaves it. -/
theorem out_last (c : Dev nD) (t : Fin cfg0.N) (h7 : t.val % 8 = 7) :
    (outsAt0 m c t.val t.isLt).1 = k0_pay2 (F := Ideal) (outsAt0 m c t.val t.isLt).2
      (View.ld (iblk m c 1 t) (Rect.unit ![0, 1] ![1, 16] inb_S1x17_S1x16_0_1)) (View.ld (iblk m c 1 t) (Rect.unit ![0, 0] ![1, 16] inb_S1x17_S1x16_0_0))
      (iblk m c 5 t) (iblk m c 6 t) (iblk m c 7 t) := by
  rw [outsAt0_C m c t (by omega) h7]
  frame_out
  try rfl

/-- The array the kernel writes. -/
theorem final (c : Dev nD) (hcu : ∀ s : Fin 17, 0 ≤ (m ((c : Thread nD τ).loc main_arg1) (ix1 s) : BitVec 32).toInt) :
    (dats m 0 c).arrAt 8 cfg0.N = kernelOut (m ((c : Thread nD τ).loc main_arg0)) (m ((c : Thread nD τ).loc main_arg1)) (m ((c : Thread nD τ).loc main_arg2))
      (m ((c : Thread nD τ).loc main_arg4)) (m ((c : Thread nD τ).loc main_arg6)) (m ((c : Thread nD τ).loc main_arg8)) (m ((c : Thread nD τ).loc main_arg10))
      (m ((c : Thread nD τ).loc main_arg12)) := by
  refine (dats m 0 c).arrAt_eq_of_covers 8 _ (by decide +kernel) fun t hf y => ?_
  blk_simp
  rw [after0_8]
  have h7 : t.val % 8 = 7 := (flush0_8 t).mp hf
  obtain ⟨s, o, rfl⟩ : ∃ (s : Fin 16) (o : Fin 25), y = ix2 s o := ⟨y 0, y 1, eq_ix2 y⟩
  have e : (win0_8.blk t).view.emb (ix2 s o) = ix2 s o := by blk_ext [idx t]
  rw [e, out_last m c t h7, pay_head, starts_hi, starts_lo]
  simp only [scratch_last m c hcu t h7, blk_v1, blk_v2, blk_v3]
  rfl

end Cert.Rips

end
-- ==== Proof.Pre.lean ====
/-
  What the precondition says of the arrays: the first start is zero, the starts never fall, the biases are zero, and the
  points and the encoder's weights are real numbers.
-/
module

public import proofs.«01_k».proof.Proof.Layers
public import proofs.«01_k».proof.Proof.Gen.Pre_segments_and_zero_biases
public import Idealize.ShloMosaic.Lib.ReduceAll

@[expose] public section

set_option maxRecDepth 16384

noncomputable section

open Idealize.ShloMosaic

namespace Cert.Rips

open Cert.Pre_segments_and_zero_biases

theorem and_one {a b : BitVec 1} : IntOp.andi a b = 1#1 ↔ a = 1#1 ∧ b = 1#1 := by
  revert a b
  decide

/-- An absolute value below infinity is a real number's. -/
theorem isReal_of_abs (x : Ideal .f32) (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    simp [hn] at h'
  rw [max_lt_iff] at hlt
  refine ⟨hlt.1.ne, fun hb => ?_⟩
  have h2 := hlt.2
  rw [show (x : EReal) = ⊥ from hb] at h2
  simp at h2

/-- A value that compares equal to zero is zero. -/
theorem zero_of_oeq (x : Ideal .f32) (h : FloatOps.cmpf .oeq x (FloatOps.ofBits (F := Ideal) .f32 0x00000000#32) = 1#1) : x = 0 := by
  have h' : BitVec.ofBool (decide ((x : EReal) = Ideal.ofBits .f32 0x00000000#32)) = 1#1 := h
  rw [Ideal.ofBits_zero_f32] at h'
  by_contra hn
  have hn' : ¬(x : EReal) = 0 := hn
  simp [hn'] at h'

theorem le_of_sle (a b : BitVec 32) (h : IntOp.cmpi .sle a b = 1#1) : a.toInt ≤ b.toInt := by
  by_contra hn
  simp [IntOp.cmpi, BitVec.sle, hn] at h

theorem eq_of_cmpi (a b : BitVec 32) (h : IntOp.cmpi .eq a b = 1#1) : a = b := by
  by_contra hn
  have h' : BitVec.ofBool (a == b) = 1#1 := h
  rw [beq_eq_false_iff_ne.mpr hn] at h'
  exact absurd h' (by decide)

/-- What the precondition gives, array by array. -/
structure Given (x : FVec Ideal S32768x3 .f32) (cu : IVec S17 32) (w1 : FVec Ideal S3x32 .f32) (b1 : FVec Ideal S32 .f32) (w2 : FVec Ideal S32x64 .f32) (b2 : FVec Ideal S64 .f32)
    (w3 : FVec Ideal S64x128 .f32) (b3 : FVec Ideal S128 .f32) (c1 : FVec Ideal S128 .f32) (c2 : FVec Ideal S64 .f32) (c3 : FVec Ideal S25 .f32) : Prop where
  first : cu (ix1 0) = 0#32
  rise : ∀ k : Fin 16, (cu (ix1 (k.castSucc : Fin 17))).toInt ≤ (cu (ix1 (k.succ : Fin 17))).toInt
  b1 : ∀ a, b1 (ix1 a) = 0
  b2 : ∀ a, b2 (ix1 a) = 0
  b3 : ∀ a, b3 (ix1 a) = 0
  c1 : ∀ a, c1 (ix1 a) = 0
  c2 : ∀ a, c2 (ix1 a) = 0
  c3 : ∀ a, c3 (ix1 a) = 0
  x : ∀ a b, IsReal (x (ix2 a b))
  w1 : ∀ a b, IsReal (w1 (ix2 a b))
  w2 : ∀ a b, IsReal (w2 (ix2 a b))
  w3 : ∀ a b, IsReal (w3 (ix2 a b))

theorem facts_of_pre (x : FVec Ideal S32768x3 .f32) (cu : IVec S17 32) (w1 : FVec Ideal S3x32 .f32) (b1 : FVec Ideal S32 .f32) (w2 : FVec Ideal S32x64 .f32) (b2 : FVec Ideal S64 .f32)
    (w3 : FVec Ideal S64x128 .f32) (b3 : FVec Ideal S128 .f32) (v1 : FVec Ideal S128x128 .f32) (c1 : FVec Ideal S128 .f32) (v2 : FVec Ideal S128x64 .f32) (c2 : FVec Ideal S64 .f32)
    (v3 : FVec Ideal S64x25 .f32) (c3 : FVec Ideal S25 .f32)
    (h : fn (F := Ideal) x cu w1 b1 w2 b2 w3 b3 v1 c1 v2 c2 v3 c3 = fun _ => 1#1) : Given x cu w1 b1 w2 b2 w3 b3 c1 c2 c3 := by
  have h0 := congrFun h ix0
  unfold fn fn_part1 fn_part2 fn_part3 at h0
  dsimp only at h0
  obtain ⟨h0, ew3⟩ := and_one.mp h0
  obtain ⟨h0, ew2⟩ := and_one.mp h0
  obtain ⟨h0, ew1⟩ := and_one.mp h0
  obtain ⟨h0, ex⟩ := and_one.mp h0
  obtain ⟨h0, ec3⟩ := and_one.mp h0
  obtain ⟨h0, ec2⟩ := and_one.mp h0
  obtain ⟨h0, ec1⟩ := and_one.mp h0
  obtain ⟨h0, eb3⟩ := and_one.mp h0
  obtain ⟨h0, eb2⟩ := and_one.mp h0
  obtain ⟨h0, eb1⟩ := and_one.mp h0
  obtain ⟨h0, er⟩ := and_one.mp h0
  constructor
  · have e := eq_of_cmpi _ _ h0
    pointwise at e
    exact e
  · intro k
    have e := le_of_sle _ _ (Host.reduce_andi_all _ _ _ _ _ er (ix1 k))
    pointwise at e
    simp only [Nat.add_comm 1] at e
    exact e
  · exact fun a => zero_of_oeq _ (Host.reduce_andi_all _ _ _ _ _ eb1 (ix1 a))
  · exact fun a => zero_of_oeq _ (Host.reduce_andi_all _ _ _ _ _ eb2 (ix1 a))
  · exact fun a => zero_of_oeq _ (Host.reduce_andi_all _ _ _ _ _ eb3 (ix1 a))
  · exact fun a => zero_of_oeq _ (Host.reduce_andi_all _ _ _ _ _ ec1 (ix1 a))
  · exact fun a => zero_of_oeq _ (Host.reduce_andi_all _ _ _ _ _ ec2 (ix1 a))
  · exact fun a => zero_of_oeq _ (Host.reduce_andi_all _ _ _ _ _ ec3 (ix1 a))
  · exact fun a b => isReal_of_abs _ (Host.reduce_andi_all _ _ _ _ _ ex (ix2 a b))
  · exact fun a b => isReal_of_abs _ (Host.reduce_andi_all _ _ _ _ _ ew1 (ix2 a b))
  · exact fun a b => isReal_of_abs _ (Host.reduce_andi_all _ _ _ _ _ ew2 (ix2 a b))
  · exact fun a b => isReal_of_abs _ (Host.reduce_andi_all _ _ _ _ _ ew3 (ix2 a b))

end Cert.Rips

end
-- ==== Proof.RefSpec.lean ====
/-
  The reference, cut into its pieces: the encodings of all points, each point's segment, the sums by segment, the head.
-/
module

public import proofs.«01_k».proof.Proof.Layers
public import proofs.«01_k».proof.Proof.Words
public import proofs.«01_k».proof.Proof.Gen.ReferenceIdeal
public import Idealize.ShloMosaic.Lib.IndicatorCount
public import Idealize.ShloMosaic.Lib.Routing.OpsPair

@[expose] public section

set_option maxRecDepth 16384

noncomputable section

open Idealize.ShloMosaic

namespace Cert.Rips

open Cert.ReferenceIdeal Cert.ReferenceIdeal.Gen

/-- The encodings of all points, biases and all. -/
def refEnc (x : FVec Ideal S32768x3 .f32) (w1 : FVec Ideal S3x32 .f32) (b1 : FVec Ideal S32 .f32) (w2 : FVec Ideal S32x64 .f32) (b2 : FVec Ideal S64 .f32)
    (w3 : FVec Ideal S64x128 .f32) (b3 : FVec Ideal S128 .f32) : FVec Ideal S32768x128 .f32 :=
  maximumf (addf (Host.dotGeneral dot_S32768x64_S64x128_S32768x128_1_0_0_1_n_n none (maximumf (addf (Host.dotGeneral dot_S32768x32_S32x64_S32768x64_1_0_0_1_n_n none (maximumf (addf (Host.dotGeneral dot_S32768x3_S3x32_S32768x32_1_0_0_1_n_n none x w1) (broadcastInDim S32768x32 ![0, 1] bcast_S1x32_S32768x32_0_1 (broadcastInDim S1x32 ![1] bcast_S32_S1x32_1 b1))) (broadcastInDim S32768x32 ![] bcast_S_S32768x32 (constant S_ .f32 0x00000000#32))) w2) (broadcastInDim S32768x64 ![0, 1] bcast_S1x64_S32768x64_0_1 (broadcastInDim S1x64 ![1] bcast_S64_S1x64_1 b2))) (broadcastInDim S32768x64 ![] bcast_S_S32768x64 (constant S_ .f32 0x00000000#32))) w3) (broadcastInDim S32768x128 ![0, 1] bcast_S1x128_S32768x128_0_1 (broadcastInDim S1x128 ![1] bcast_S128_S1x128_1 b3))) (broadcastInDim S32768x128 ![] bcast_S_S32768x128 (constant S_ .f32 0x00000000#32))

/-- Each point's segment: the number of starts at or below the point, less one, kept between 0 and 15. -/
def refSeg (cu : IVec S17 32) : IVec S32768x1 32 :=
  broadcastInDim S32768x1 ![0] bcast_S32768_S32768x1_0 (minsi (broadcastInDim S32768 ![] bcast_S_S32768 (id (constantI S_ 32 15#32))) (maxsi (broadcastInDim S32768 ![] bcast_S_S32768 (id (constantI S_ 32 0#32))) (subi (Host.reduce IntOp.addi (extui 32 (cmpi .sle (broadcastInDim S32768x17 ![0, 1] bcast_S1x17_S32768x17_0_1 (broadcastInDim S1x17 ![1] bcast_S17_S1x17_1 cu)) (broadcastInDim S32768x17 ![0, 1] bcast_S32768x1_S32768x17_0_1 (broadcastInDim S32768x1 ![0] bcast_S32768_S32768x1_0 (iotaInDim S32768 32 0)))) natLt_1_32) (constantI S_ 32 0#32) reducesTo_S32768x17_S32768_d1 h_S_) (broadcastInDim S32768 ![] bcast_S_S32768 (constantI S_ 32 1#32)))))

/-- The sums of `e`'s rows by the segments `g`. -/
def refSum (g : IVec S32768x1 32) (e : FVec Ideal S32768x128 .f32) : FVec Ideal S16x128 .f32 :=
  Host.scatterAdd scatter_S16x128_S32768x1_S32768x128_1_0_0_1 (broadcastInDim S16x128 ![] bcast_S_S16x128 (constant S_ .f32 0x00000000#32)) g e

/-- The head over the sums `p` divided by the segments' lengths. -/
def refHead (p : FVec Ideal S16x128 .f32) (cu : IVec S17 32) (v1 : FVec Ideal S128x128 .f32) (c1 : FVec Ideal S128 .f32) (v2 : FVec Ideal S128x64 .f32) (c2 : FVec Ideal S64 .f32)
    (v3 : FVec Ideal S64x25 .f32) (c3 : FVec Ideal S25 .f32) : FVec Ideal S16x25 .f32 :=
  addf (Host.dotGeneral dot_S16x64_S64x25_S16x25_1_0_0_1_n_n none (maximumf (addf (Host.dotGeneral dot_S16x128_S128x64_S16x64_1_0_0_1_n_n none (maximumf (addf (Host.dotGeneral dot_S16x128_S128x128_S16x128_1_0_0_1_n_n none (Host.divf p (broadcastInDim S16x128 ![0, 1] bcast_S16x1_S16x128_0_1 (broadcastInDim S16x1 ![0] bcast_S16_S16x1_0 (maximumf (sitofp .f32 (subi (extractStridedSlice S16 ![1] cu slices_S17_S16_1) (extractStridedSlice S16 ![0] cu slices_S17_S16_0))) (broadcastInDim S16 ![] bcast_S_S16 (constant S_ .f32 0x3F800000#32)))))) v1) (broadcastInDim S16x128 ![0, 1] bcast_S1x128_S16x128_0_1 (broadcastInDim S1x128 ![1] bcast_S128_S1x128_1 c1))) (broadcastInDim S16x128 ![] bcast_S_S16x128 (constant S_ .f32 0x00000000#32))) v2) (broadcastInDim S16x64 ![0, 1] bcast_S1x64_S16x64_0_1 (broadcastInDim S1x64 ![1] bcast_S64_S1x64_1 c2))) (broadcastInDim S16x64 ![] bcast_S_S16x64 (constant S_ .f32 0x00000000#32))) v3) (broadcastInDim S16x25 ![0, 1] bcast_S1x25_S16x25_0_1 (broadcastInDim S1x25 ![1] bcast_S25_S1x25_1 c3))

/-- With zero biases the reference's encodings are the plain three layers. -/
theorem refEnc_entry (x : FVec Ideal S32768x3 .f32) (w1 : FVec Ideal S3x32 .f32) (b1 : FVec Ideal S32 .f32) (w2 : FVec Ideal S32x64 .f32) (b2 : FVec Ideal S64 .f32)
    (w3 : FVec Ideal S64x128 .f32) (b3 : FVec Ideal S128 .f32) (h1 : ∀ a, b1 (ix1 a) = 0) (h2 : ∀ a, b2 (ix1 a) = 0) (h3 : ∀ a, b3 (ix1 a) = 0) (n : Fin 32768) (d : Fin 128) :
    refEnc x w1 b1 w2 b2 w3 b3 (ix2 n d) = encode (fun k => x (ix2 n k)) (fun a b => w1 (ix2 a b)) (fun a b => w2 (ix2 a b)) (fun a b => w3 (ix2 a b)) d := by
  pointwise [refEnc, encode, dense, h1, h2, h3]

/-- With zero biases the reference's head is the plain one. -/
theorem refHead_entry (p : FVec Ideal S16x128 .f32) (cu : IVec S17 32) (v1 : FVec Ideal S128x128 .f32) (c1 : FVec Ideal S128 .f32) (v2 : FVec Ideal S128x64 .f32) (c2 : FVec Ideal S64 .f32)
    (v3 : FVec Ideal S64x25 .f32) (c3 : FVec Ideal S25 .f32) (h1 : ∀ a, c1 (ix1 a) = 0) (h2 : ∀ a, c2 (ix1 a) = 0) (h3 : ∀ a, c3 (ix1 a) = 0) (s : Fin 16) (o : Fin 25) :
    refHead p cu v1 c1 v2 c2 v3 c3 (ix2 s o)
      = head (fun d : Fin 128 => Ideal.div (p (ix2 s d)) (max ((((cu (ix1 (s.succ : Fin 17)) - cu (ix1 (s.castSucc : Fin 17)) : BitVec 32).toInt : ℝ) : EReal)) 1))
          (fun a b => v1 (ix2 a b)) (fun a b => v2 (ix2 a b)) (fun a b => v3 (ix2 a b)) o := by
  pointwise [refHead, head, dense, h1, h2, h3]
  simp only [Nat.add_comm 1]
  rfl

/-- A widened sum of comparison bits is the number of starts at or below the point. -/
theorem count_bits (c : Fin 17 → BitVec 32) (n : ℕ) (hn : n < 2147483648) :
    Finset.fold IntOp.addi (0#32) (fun k => BitVec.setWidth 32 (IntOp.cmpi .sle (c k) (BitVec.ofNat 32 n))) Finset.univ
      = BitVec.ofNat 32 (Finset.univ.filter fun k : Fin 17 => (c k).toInt ≤ (n : Int)).card := by
  rw [IndicatorCount.fold_addi_setWidth_eq_card]
  refine congrArg (fun S : Finset (Fin 17) => BitVec.ofNat 32 S.card) (Finset.filter_congr fun k _ => ?_)
  by_cases h : (c k).toInt ≤ (n : Int)
  · simp [IntOp.cmpi, BitVec.sle, toInt_ofNat_small n hn, h]
  · simp [IntOp.cmpi, BitVec.sle, toInt_ofNat_small n hn, h]

/-- Point `n`'s segment. -/
theorem refSeg_entry (cu : IVec S17 32) (n : Fin 32768) : refSeg cu (ix2 n 0) = IntOp.minsi 15#32 (IntOp.maxsi 0#32
    (BitVec.ofNat 32 (Finset.univ.filter fun k : Fin 17 => (cu (ix1 k)).toInt ≤ (n.val : Int)).card - 1#32)) := by
  pointwise [refSeg]
  rw [count_bits (fun k => cu (ix1 k)) n.val (by omega)]
  rfl

/-- Where a point's row lands: in its segment's row, feature by feature. -/
theorem lands (g : IVec S32768x1 32) (n : Fin 32768) (d' d : Fin 128) (s : Fin 16) :
    scatter_S16x128_S32768x1_S32768x128_1_0_0_1.resultIdx? (ix2 n d') g = some (ix2 s d) ↔ (g (ix2 n 0)).toInt = (s.val : Int) ∧ d' = d := by
  rw [Routing.resultIdx?_eq_some]
  have e0 : ScatterDims.start scatter_S16x128_S32768x1_S32768x128_1_0_0_1 (ix2 n d') g (0 : Fin 2) = (g (ix2 n 0)).toInt := by
    unfold ScatterDims.start
    rw [dif_pos (by decide)]
    congr 2
    funext a
    fin_cases a <;> rfl
  have e1 : ScatterDims.start scatter_S16x128_S32768x1_S32768x128_1_0_0_1 (ix2 n d') g (1 : Fin 2) = 0 := rfl
  have w0 : ScatterDims.window scatter_S16x128_S32768x1_S32768x128_1_0_0_1 (ix2 n d') (0 : Fin 2) = 0 := rfl
  have w1 : ScatterDims.window scatter_S16x128_S32768x1_S32768x128_1_0_0_1 (ix2 n d') (1 : Fin 2) = d'.val := rfl
  constructor
  · intro h
    have a0 := h (0 : Fin 2)
    have a1 := h (1 : Fin 2)
    rw [e0, w0] at a0
    rw [e1, w1] at a1
    refine ⟨by simpa using a0, Fin.ext ?_⟩
    have : ((ix2 s d : S16x128.Idx) 1).val = d.val := rfl
    omega
  · rintro ⟨h, rfl⟩ a
    match a with
    | ⟨0, _⟩ =>
      refine Eq.trans (congrArg₂ (fun (u : Int) (v : ℕ) => u + (v : Int)) e0 w0) ?_
      rw [h]
      simp
    | ⟨1, _⟩ =>
      refine Eq.trans (congrArg₂ (fun (u : Int) (v : ℕ) => u + (v : Int)) e1 w1) ?_
      rw [zero_add]
      rfl

/-- The sums by segment at an entry. -/
theorem refSum_entry (g : IVec S32768x1 32) (e : FVec Ideal S32768x128 .f32) (s : Fin 16) (d : Fin 128) :
    refSum g e (ix2 s d) = ∑ n : Fin 32768, if (g (ix2 n 0)).toInt = (s.val : Int) then e (ix2 n d) else 0 := by
  have h : refSum g e (ix2 s d) = (broadcastInDim S16x128 ![] bcast_S_S16x128 (constant S_ .f32 0x00000000#32) : FVec Ideal S16x128 .f32) (ix2 s d)
      + ∑ j ∈ Finset.univ.filter (fun j => scatter_S16x128_S32768x1_S32768x128_1_0_0_1.resultIdx? j g = some (ix2 s d)), e j := rfl
  have hz : (broadcastInDim S16x128 ![] bcast_S_S16x128 (constant S_ .f32 0x00000000#32) : FVec Ideal S16x128 .f32) (ix2 s d) = 0 := by pointwise
  rw [h, hz, zero_add, Finset.sum_filter, sum_idx2]
  refine Finset.sum_congr rfl fun n _ => ?_
  simp only [lands]
  by_cases q : (g (ix2 n 0)).toInt = (s.val : Int)
  · simp [q]
  · simp [q]

end Cert.Rips

end
-- ==== Proof.Equation.lean ====
/-
  The equation of the two programs: under the precondition the difference of neighbouring running sums is the sum over one
  segment, and one over the length times a sum is the sum divided by the length; so the kernel's array is the reference's.
-/
module

public import proofs.«01_k».proof.Proof.Count
public import proofs.«01_k».proof.Proof.Fold
public import proofs.«01_k».proof.Proof.Pre
public import proofs.«01_k».proof.Proof.RefSpec
public import Idealize.ShloMosaic.Lib.IdealHost

@[expose] public section

set_option maxRecDepth 16384

noncomputable section

open Idealize.ShloMosaic

namespace Cert.Rips

open Cert.KernelIdeal

/-- The starts as integers never decrease. -/
theorem starts_mono (cu : IVec S17 32) (h : ∀ k : Fin 16, (cu (ix1 (k.castSucc : Fin 17))).toInt ≤ (cu (ix1 (k.succ : Fin 17))).toInt) :
    Monotone fun k : Fin 17 => (cu (ix1 k) : BitVec 32).toInt :=
  Fin.monotone_iff_le_succ.mpr h

/-- The starts are not negative. -/
theorem starts_nonneg (cu : IVec S17 32) (h0 : cu (ix1 0) = 0#32) (h : ∀ k : Fin 16, (cu (ix1 (k.castSucc : Fin 17))).toInt ≤ (cu (ix1 (k.succ : Fin 17))).toInt) (s : Fin 17) :
    0 ≤ (cu (ix1 s) : BitVec 32).toInt := by
  have hs := starts_mono cu h (Fin.zero_le s)
  have hz : (cu (ix1 (0 : Fin 17)) : BitVec 32).toInt = 0 := by
    rw [h0]
    decide
  exact hz ▸ hs

/-- The sum over the points of segment `s` is the sum from its start on less the sum from the next start on. -/
theorem segment_sum (c : Fin 17 → Int) (hm : Monotone c) (h0 : c 0 = 0) (f : Fin 32768 → EReal) (hf : ∀ n, IsReal (f n)) (s : Fin 16) :
    ((∑ n : Fin 32768, if c s.castSucc ≤ (n.val : Int) then f n else 0)
        - if h : s.val < 15 then ∑ n : Fin 32768, if c (Fin.castSucc ⟨s.val + 1, by omega⟩) ≤ (n.val : Int) then f n else 0 else 0)
      = ∑ n : Fin 32768, if (IntOp.minsi 15#32 (IntOp.maxsi 0#32
          (BitVec.ofNat 32 (Finset.univ.filter fun k : Fin 17 => c k ≤ (n.val : Int)).card - 1#32))).toInt = (s.val : Int) then f n else 0 := by
  have hiff := fun n : Fin 32768 => clamp_eq_iff c hm (n.val : Int) (by rw [h0]; exact Int.natCast_nonneg _) s
  simp only [hiff]
  by_cases hs : s.val < 15
  · rw [dif_pos hs, ← Finset.sum_filter, ← Finset.sum_filter, ← Finset.sum_filter]
    have hle : c s.castSucc ≤ c s.succ := hm (Fin.castSucc_le_succ s)
    rw [sum_sub_part _ _ (fun n hn => ?_) f hf]
    · refine Finset.sum_congr ?_ fun _ _ => rfl
      ext n
      simp only [Finset.mem_sdiff, Finset.mem_filter, Finset.mem_univ, true_and, hs, forall_const]
      rfl
    · rw [Finset.mem_filter] at hn ⊢
      exact ⟨hn.1, hle.trans hn.2⟩
  · rw [dif_neg hs, sub_zero]
    simp only [hs, false_imp_iff, and_true]

/-- One over the kernel's length, times a sum, is the sum divided by the reference's length. -/
theorem divide (z : BitVec 32) (x : EReal) :
    x * Ideal.div 1 (((IntOp.maxsi z 1#32).toInt : ℝ) : EReal) = Ideal.div x (max (((z.toInt : ℝ)) : EReal) 1) := by
  have hz : (IntOp.maxsi z 1#32).toInt = max z.toInt 1 := by
    show (if (1#32).slt z then z else 1#32).toInt = _
    by_cases h : 1 < z.toInt
    · rw [show (1#32).slt z = true from decide_eq_true h, if_pos rfl, max_eq_left (le_of_lt h)]
    · rw [show (1#32).slt z = false from decide_eq_false h, if_neg Bool.false_ne_true, max_eq_right (not_lt.mp h)]
      rfl
  have hc : (((max z.toInt 1 : Int) : ℝ) : EReal) = max (((z.toInt : ℝ)) : EReal) 1 := by
    rw [Int.cast_max, EReal.coe_strictMono.monotone.map_max]
    simp
  have hne : max (((z.toInt : ℝ)) : EReal) 1 ≠ 0 := (lt_of_lt_of_le zero_lt_one (le_max_right _ _)).ne'
  rw [hz, hc, Ideal.mul_one_div hne]

/-- The difference of neighbouring running sums is the reference's sum of the segment. -/
theorem sums_eq (x : FVec Ideal S32768x3 .f32) (cu : IVec S17 32) (w1 : FVec Ideal S3x32 .f32) (b1 : FVec Ideal S32 .f32) (w2 : FVec Ideal S32x64 .f32) (b2 : FVec Ideal S64 .f32)
    (w3 : FVec Ideal S64x128 .f32) (b3 : FVec Ideal S128 .f32) (c1 : FVec Ideal S128 .f32) (c2 : FVec Ideal S64 .f32) (c3 : FVec Ideal S25 .f32)
    (hg : Given x cu w1 b1 w2 b2 w3 b3 c1 c2 c3) (s : Fin 16) (d : Fin 128) :
    (fromStart x cu w1 w2 w3 s d - if h : s.val < 15 then fromStart x cu w1 w2 w3 ⟨s.val + 1, by omega⟩ d else 0)
      = refSum (refSeg cu) (refEnc x w1 b1 w2 b2 w3 b3) (ix2 s d) := by
  have h0 : (cu (ix1 0) : BitVec 32).toInt = 0 := by
    rw [hg.first]
    decide
  refine (segment_sum (fun k => (cu (ix1 k) : BitVec 32).toInt) (starts_mono cu hg.rise) h0
    (fun n => encode (fun k => x (ix2 n k)) (fun a b => w1 (ix2 a b)) (fun a b => w2 (ix2 a b)) (fun a b => w3 (ix2 a b)) d)
    (fun n => IsReal.encode (fun k => hg.x n k) hg.w1 hg.w2 hg.w3 d) s).trans ?_
  rw [refSum_entry]
  refine Finset.sum_congr rfl fun n _ => ?_
  rw [refSeg_entry, refEnc_entry x w1 b1 w2 b2 w3 b3 hg.b1 hg.b2 hg.b3]

/-- The kernel's array is the reference's. -/
theorem equation (x : FVec Ideal S32768x3 .f32) (cu : IVec S17 32) (w1 : FVec Ideal S3x32 .f32) (b1 : FVec Ideal S32 .f32) (w2 : FVec Ideal S32x64 .f32) (b2 : FVec Ideal S64 .f32)
    (w3 : FVec Ideal S64x128 .f32) (b3 : FVec Ideal S128 .f32) (v1 : FVec Ideal S128x128 .f32) (c1 : FVec Ideal S128 .f32) (v2 : FVec Ideal S128x64 .f32) (c2 : FVec Ideal S64 .f32)
    (v3 : FVec Ideal S64x25 .f32) (c3 : FVec Ideal S25 .f32) (hg : Given x cu w1 b1 w2 b2 w3 b3 c1 c2 c3) :
    kernelOut x cu w1 w2 w3 v1 v2 v3 = refHead (refSum (refSeg cu) (refEnc x w1 b1 w2 b2 w3 b3)) cu v1 c1 v2 c2 v3 c3 := by
  funext j
  obtain ⟨s, o, rfl⟩ : ∃ (s : Fin 16) (o : Fin 25), j = ix2 s o := ⟨j 0, j 1, eq_ix2 j⟩
  refine Eq.trans ?_ (refHead_entry _ cu v1 c1 v2 c2 v3 c3 hg.c1 hg.c2 hg.c3 s o).symm
  refine congrArg (fun p : Fin 128 → EReal => head p (fun a b => v1 (ix2 a b)) (fun a b => v2 (ix2 a b)) (fun a b => v3 (ix2 a b)) o) (funext fun d => ?_)
  rw [← sums_eq x cu w1 b1 w2 b2 w3 b3 c1 c2 c3 hg s d]
  exact divide (cu (ix1 (Fin.succ s : Fin 17)) - cu (ix1 (Fin.castSucc s : Fin 17))) _

end Cert.Rips

end
-- ==== Proof.lean ====
/-
  The claims put together: the frames from the generated runs, and the value claim from the array the kernel writes
  (proof/Proof/Fold.lean) and the equation of that array with the reference's (proof/Proof/Equation.lean).
-/
module

public import proofs.«01_k».proof.Defs
public import proofs.«01_k».proof.Proof.Gen.Kernel.Frame
public import proofs.«01_k».proof.Proof.Gen.KernelIdeal.Value
public import proofs.«01_k».proof.Proof.Gen.Pre_segments_and_zero_biases
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem reference_rests : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values_agree : algebraic_KernelIdeal_ReferenceIdeal_pre_segments_and_zero_biases := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  have hg := Cert.Rips.facts_of_pre _ _ _ _ _ _ _ _ _ _ _ _ _ _ (hpre c)
  rw [(h c).1]
  simp only [hagree c]
  refine Eq.trans ?_ (Cert.Rips.final m c (Cert.Rips.starts_nonneg _ hg.first hg.rise)).symm
  exact (Cert.Rips.equation _ _ _ _ _ _ _ _ _ _ _ _ _ _ hg).symm

theorem claim : Cert.Claim := ⟨Cert.Kernel.Gen.facts, Cert.KernelIdeal.Gen.facts, Cert.ReferenceIdeal.Gen.facts, Cert.Pre_segments_and_zero_biases.Gen.facts,
  fun m ρ _ => Cert.Kernel.Gen.frame m ρ, fun m ρ _ => Cert.KernelIdeal.Gen.frame m ρ, fun m ρ _ => Cert.KernelIdeal.Gen.frame m ρ,
  reference_rests, fun m ρ _ => reference_rests m ρ trivial, trivial, values_agree⟩

end Cert.Proof

end
